-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x96x96x16 : Shape := ⟨5, ![2, 96, 96, 96, 16]⟩
abbrev S2x216 : Shape := ⟨2, ![2, 216]⟩
abbrev S2x96x96x1536 : Shape := ⟨4, ![2, 96, 96, 1536]⟩
abbrev S2x1x216 : Shape := ⟨3, ![2, 1, 216]⟩
abbrev S2x216x1 : Shape := ⟨3, ![2, 216, 1]⟩
abbrev S1x1x216 : Shape := ⟨3, ![1, 1, 216]⟩
abbrev S1x216x1 : Shape := ⟨3, ![1, 216, 1]⟩
abbrev S1x16x16x1536 : Shape := ⟨4, ![1, 16, 16, 1536]⟩
abbrev S1x216 : Shape := ⟨2, ![1, 216]⟩
abbrev S216x1 : Shape := ⟨2, ![216, 1]⟩
abbrev S216x216 : Shape := ⟨2, ![216, 216]⟩
abbrev S216 : Shape := ⟨1, ![216]⟩
abbrev S216x1536 : Shape := ⟨2, ![216, 1536]⟩
abbrev S1536 : Shape := ⟨1, ![1536]⟩
abbrev S1x1536 : Shape := ⟨2, ![1, 1536]⟩
abbrev S1x1x1x1536 : Shape := ⟨4, ![1, 1, 1, 1536]⟩

abbrev nBuf : Space → Nat
  | .hbm => 9
  | .vmem => 10
  | .smem => 0
  | _ => 0

abbrev bufTy : (tb : Table) → Fin (tcTables nBuf tb) → BufTy
  | .hbm, ⟨0, _⟩ => ⟨S2x96x96x96x16, .f32⟩
  | .hbm, ⟨1, _⟩ => ⟨S2x216, .f32⟩
  | .hbm, ⟨2, _⟩ => ⟨S2x96x96x1536, .f32⟩
  | .hbm, ⟨3, _⟩ => ⟨S2x1x216, .f32⟩
  | .hbm, ⟨4, _⟩ => ⟨S2x216x1, .f32⟩
  | .hbm, ⟨5, _⟩ => ⟨S2x96x96x1536, .f32⟩
  | .hbm, ⟨6, _⟩ => ⟨S2x96x96x1536, .f32⟩
  | .hbm, ⟨7, _⟩ => ⟨S2x96x96x96x16, .f32⟩
  | .hbm, ⟨8, _⟩ => ⟨S2x96x96x96x16, .f32⟩
  | .local _ .vmem, ⟨0, _⟩ => ⟨S1x1x216, .f32⟩
  | .local _ .vmem, ⟨1, _⟩ => ⟨S1x1x216, .f32⟩
  | .local _ .vmem, ⟨2, _⟩ => ⟨S1x216x1, .f32⟩
  | .local _ .vmem, ⟨3, _⟩ => ⟨S1x216x1, .f32⟩
  | .local _ .vmem, ⟨4, _⟩ => ⟨S1x16x16x1536, .f32⟩
  | .local _ .vmem, ⟨5, _⟩ => ⟨S1x16x16x1536, .f32⟩
  | .local _ .vmem, ⟨6, _⟩ => ⟨S1x16x16x1536, .f32⟩
  | .local _ .vmem, ⟨7, _⟩ => ⟨S1x16x16x1536, .f32⟩
  | .local _ .vmem, ⟨8, _⟩ => ⟨S1x16x16x1536, .f32⟩
  | .local _ .vmem, ⟨9, _⟩ => ⟨S1x16x16x1536, .f32⟩
  | _, _ => ⟨S2x96x96x96x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 6, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x216x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x16x16x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x16x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x96x96x96x16 : Shape := ⟨5, ![2, 96, 96, 96, 16]⟩
abbrev S2x216 : Shape := ⟨2, ![2, 216]⟩
abbrev S2x54 : Shape := ⟨2, ![2, 54]⟩
abbrev S_ : Shape := ⟨0, ![]⟩
abbrev S16 : Shape := ⟨1, ![16]⟩
abbrev S16x16x16 : Shape := ⟨3, ![16, 16, 16]⟩
abbrev S2x54x1x1x1 : Shape := ⟨5, ![2, 54, 1, 1, 1]⟩
abbrev S1x1x16x16x16 : Shape := ⟨5, ![1, 1, 16, 16, 16]⟩
abbrev S2x54x16x16x16 : Shape := ⟨5, ![2, 54, 16, 16, 16]⟩
abbrev S2x221184 : Shape := ⟨2, ![2, 221184]⟩
abbrev S2x884736 : Shape := ⟨2, ![2, 884736]⟩
abbrev S2 : Shape := ⟨1, ![2]⟩
abbrev S2x1 : Shape := ⟨2, ![2, 1]⟩
abbrev S2x221184x1 : Shape := ⟨3, ![2, 221184, 1]⟩
abbrev S2x221184x2 : Shape := ⟨3, ![2, 221184, 2]⟩
abbrev S2x96x96x96 : Shape := ⟨4, ![2, 96, 96, 96]⟩
abbrev S2x96x96x96x1 : Shape := ⟨5, ![2, 96, 96, 96, 1]⟩
abbrev S2x96x96x96x1x16 : Shape := ⟨6, ![2, 96, 96, 96, 1, 16]⟩

abbrev nBuf : Space → Nat
  | .hbm => 158
  | .vmem => 0
  | .smem => 0
  | _ => 0

abbrev hbmTy0_0 (i : Nat) : BufTy := match i % 128 with
  | 0 => ⟨S2x96x96x96x16, .f32⟩
  | 1 => ⟨S2x216, .f32⟩
  | 2 => ⟨S2x216, .i32⟩
  | 3 => ⟨S2x216, .f32⟩
  | 4 => ⟨S2x216, .i32⟩
  | 5 => ⟨S2x54, .i32⟩
  | 6 => ⟨S_, .i32⟩
  | 7 => ⟨S_, .i32⟩
  | 8 => ⟨S2x54, .i32⟩
  | 9 => ⟨S2x54, .i32⟩
  | 10 => ⟨S2x54, .i32⟩
  | 11 => ⟨S_, .i32⟩
  | 12 => ⟨S2x54, .i32⟩
  | 13 => ⟨S2x54, .i1⟩
  | 14 => ⟨S2x54, .i32⟩
  | 15 => ⟨S2x54, .i32⟩
  | 16 => ⟨S_, .i32⟩
  | 17 => ⟨S2x54, .i32⟩
  | 18 => ⟨S2x54, .i1⟩
  | 19 => ⟨S2x54, .i1⟩
  | 20 => ⟨S_, .i32⟩
  | 21 => ⟨S2x54, .i32⟩
  | 22 => ⟨S2x54, .i32⟩
  | 23 => ⟨S2x54, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S2x54, .i32⟩
  | 31 => ⟨S2x54, .i32⟩
  | 32 => ⟨S_, .i32⟩
  | 33 => ⟨S2x54, .i32⟩
  | 34 => ⟨S2x54, .i1⟩
  | 35 => ⟨S_, .i32⟩
  | 36 => ⟨S2x54, .i32⟩
  | 37 => ⟨S2x54, .i1⟩
  | 38 => ⟨S_, .i32⟩
  | 39 => ⟨S_, .i1⟩
  | 40 => ⟨S2x54, .i1⟩
  | 41 => ⟨S2x54, .i1⟩
  | 42 => ⟨S2x54, .i1⟩
  | 43 => ⟨S2x54, .i32⟩
  | 44 => ⟨S2x54, .i32⟩
  | 45 => ⟨S2x54, .i32⟩
  | 46 => ⟨S_, .i32⟩
  | 47 => ⟨S_, .i32⟩
  | 48 => ⟨S2x54, .i32⟩
  | 49 => ⟨S2x54, .i32⟩
  | 50 => ⟨S2x54, .i32⟩
  | 51 => ⟨S_, .i32⟩
  | 52 => ⟨S2x54, .i32⟩
  | 53 => ⟨S2x54, .i1⟩
  | 54 => ⟨S2x54, .i32⟩
  | 55 => ⟨S2x54, .i32⟩
  | 56 => ⟨S_, .i32⟩
  | 57 => ⟨S2x54, .i32⟩
  | 58 => ⟨S2x54, .i1⟩
  | 59 => ⟨S2x54, .i1⟩
  | 60 => ⟨S_, .i32⟩
  | 61 => ⟨S2x54, .i32⟩
  | 62 => ⟨S2x54, .i32⟩
  | 63 => ⟨S2x54, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S2x54, .i32⟩
  | 71 => ⟨S2x54, .i32⟩
  | 72 => ⟨S_, .i32⟩
  | 73 => ⟨S2x54, .i32⟩
  | 74 => ⟨S2x54, .i1⟩
  | 75 => ⟨S_, .i32⟩
  | 76 => ⟨S2x54, .i32⟩
  | 77 => ⟨S2x54, .i1⟩
  | 78 => ⟨S_, .i32⟩
  | 79 => ⟨S_, .i1⟩
  | 80 => ⟨S2x54, .i1⟩
  | 81 => ⟨S2x54, .i1⟩
  | 82 => ⟨S2x54, .i1⟩
  | 83 => ⟨S2x54, .i32⟩
  | 84 => ⟨S2x54, .i32⟩
  | 85 => ⟨S2x54, .i32⟩
  | 86 => ⟨S16, .i32⟩
  | 87 => ⟨S16, .i32⟩
  | 88 => ⟨S16, .i32⟩
  | 89 => ⟨S16x16x16, .i32⟩
  | 90 => ⟨S16x16x16, .i32⟩
  | 91 => ⟨S16x16x16, .i32⟩
  | 92 => ⟨S2x54x1x1x1, .i32⟩
  | 93 => ⟨S_, .i32⟩
  | 94 => ⟨S2x54x1x1x1, .i32⟩
  | 95 => ⟨S2x54x1x1x1, .i32⟩
  | 96 => ⟨S1x1x16x16x16, .i32⟩
  | 97 => ⟨S2x54x16x16x16, .i32⟩
  | 98 => ⟨S2x54x16x16x16, .i32⟩
  | 99 => ⟨S2x54x16x16x16, .i32⟩
  | 100 => ⟨S2x54x1x1x1, .i32⟩
  | 101 => ⟨S_, .i32⟩
  | 102 => ⟨S2x54x1x1x1, .i32⟩
  | 103 => ⟨S2x54x1x1x1, .i32⟩
  | 104 => ⟨S1x1x16x16x16, .i32⟩
  | 105 => ⟨S2x54x16x16x16, .i32⟩
  | 106 => ⟨S2x54x16x16x16, .i32⟩
  | 107 => ⟨S2x54x16x16x16, .i32⟩
  | 108 => ⟨S2x54x1x1x1, .i32⟩
  | 109 => ⟨S_, .i32⟩
  | 110 => ⟨S2x54x1x1x1, .i32⟩
  | 111 => ⟨S2x54x1x1x1, .i32⟩
  | 112 => ⟨S1x1x16x16x16, .i32⟩
  | 113 => ⟨S2x54x16x16x16, .i32⟩
  | 114 => ⟨S2x54x16x16x16, .i32⟩
  | 115 => ⟨S2x54x16x16x16, .i32⟩
  | 116 => ⟨S_, .i32⟩
  | 117 => ⟨S2x54x16x16x16, .i32⟩
  | 118 => ⟨S2x54x16x16x16, .i32⟩
  | 119 => ⟨S_, .i32⟩
  | 120 => ⟨S2x54x16x16x16, .i32⟩
  | 121 => ⟨S2x54x16x16x16, .i32⟩
  | 122 => ⟨S2x54x16x16x16, .i32⟩
  | 123 => ⟨S2x54x16x16x16, .i32⟩
  | 124 => ⟨S2x221184, .i32⟩
  | 125 => ⟨S_, .f32⟩
  | 126 => ⟨S2x884736, .f32⟩
  | 127 => ⟨S2, .i32⟩
  | _ => ⟨S2x96x96x96x16, .f32⟩

abbrev hbmTy0_1 (i : Nat) : BufTy := match i % 128 with
  | 0 => ⟨S2x1, .i32⟩
  | 1 => ⟨S_, .i32⟩
  | 2 => ⟨S2x1, .i32⟩
  | 3 => ⟨S2x1, .i1⟩
  | 4 => ⟨S_, .i32⟩
  | 5 => ⟨S2x1, .i32⟩
  | 6 => ⟨S2x1, .i32⟩
  | 7 => ⟨S2x1, .i32⟩
  | 8 => ⟨S_, .i32⟩
  | 9 => ⟨S2x221184, .i32⟩
  | 10 => ⟨S2x221184, .i1⟩
  | 11 => ⟨S_, .i32⟩
  | 12 => ⟨S2x221184, .i32⟩
  | 13 => ⟨S2x221184, .i32⟩
  | 14 => ⟨S2x221184, .i32⟩
  | 15 => ⟨S2x221184, .i32⟩
  | 16 => ⟨S2x221184x1, .i32⟩
  | 17 => ⟨S2x221184x1, .i32⟩
  | 18 => ⟨S2x221184x2, .i32⟩
  | 19 => ⟨S_, .f32⟩
  | 20 => ⟨S2x221184, .f32⟩
  | 21 => ⟨S2x884736, .f32⟩
  | 22 => ⟨S2x96x96x96, .f32⟩
  | 23 => ⟨S2x96x96x96x1, .f32⟩
  | 24 => ⟨S2x96x96x96x1x16, .f32⟩
  | 25 => ⟨S2x96x96x96x16, .f32⟩
  | 26 => ⟨S_, .f32⟩
  | 27 => ⟨S2x96x96x96x16, .f32⟩
  | 28 => ⟨S2x96x96x96x16, .f32⟩
  | 29 => ⟨S2x96x96x96x16, .f32⟩
  | _ => ⟨S2x96x96x96x16, .f32⟩

abbrev hbmTy (i : Nat) : BufTy := match i / 128 with
  | 0 => hbmTy0_0 i
  | 1 => hbmTy0_1 i
  | _ => ⟨S2x96x96x96x16, .f32⟩

abbrev bufTy : (tb : Table) → Fin (tcTables nBuf tb) → BufTy
  | .hbm, ⟨i, _⟩ => hbmTy i
  | _, _ => ⟨S2x96x96x96x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_v6 : Ref sig .tc := ⟨.hbm, 13, rfl⟩
abbrev main_call1_v7 : Ref sig .tc := ⟨.hbm, 14, rfl⟩
abbrev main_call1_v8 : Ref sig .tc := ⟨.hbm, 15, rfl⟩
abbrev main_call1_c : Ref sig .tc := ⟨.hbm, 16, rfl⟩
abbrev main_call1_v9 : Ref sig .tc := ⟨.hbm, 17, rfl⟩
abbrev main_call1_v10 : Ref sig .tc := ⟨.hbm, 18, rfl⟩
abbrev main_call1_v11 : Ref sig .tc := ⟨.hbm, 19, rfl⟩
abbrev main_call1_c_0 : Ref sig .tc := ⟨.hbm, 20, rfl⟩
abbrev main_call1_v12 : Ref sig .tc := ⟨.hbm, 21, rfl⟩
abbrev main_call1_v13 : Ref sig .tc := ⟨.hbm, 22, rfl⟩
abbrev main_v2 : Ref sig .tc := ⟨.hbm, 23, rfl⟩
abbrev main_c_0 : Ref sig .tc := ⟨.hbm, 24, rfl⟩
abbrev main_call2_v0 : Ref sig .tc := ⟨.hbm, 25, rfl⟩
abbrev main_call2_c : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_c_1 : Ref sig .tc := ⟨.hbm, 32, rfl⟩
abbrev main_call2_v5 : Ref sig .tc := ⟨.hbm, 33, rfl⟩
abbrev main_call2_v6 : Ref sig .tc := ⟨.hbm, 34, rfl⟩
abbrev main_call2_c_2 : Ref sig .tc := ⟨.hbm, 35, rfl⟩
abbrev main_call2_v7 : Ref sig .tc := ⟨.hbm, 36, rfl⟩
abbrev main_call2_v8 : Ref sig .tc := ⟨.hbm, 37, rfl⟩
abbrev main_call2_c_3 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_v3 : Ref sig .tc := ⟨.hbm, 45, rfl⟩
abbrev main_c_1 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_c : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_0 : Ref sig .tc := ⟨.hbm, 60, rfl⟩
abbrev main_call3_v12 : Ref sig .tc := ⟨.hbm, 61, rfl⟩
abbrev main_call3_v13 : Ref sig .tc := ⟨.hbm, 62, rfl⟩
abbrev main_v4 : Ref sig .tc := ⟨.hbm, 63, rfl⟩
abbrev main_c_2 : Ref sig .tc := ⟨.hbm, 64, rfl⟩
abbrev main_call4_v0 : Ref sig .tc := ⟨.hbm, 65, rfl⟩
abbrev main_call4_c : Ref sig .tc := ⟨.hbm, 66, rfl⟩
abbrev main_call4_v1 : Ref sig .tc := ⟨.hbm, 67, rfl⟩
abbrev main_call4_c_0 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_c_1 : Ref sig .tc := ⟨.hbm, 72, rfl⟩
abbrev main_call4_v5 : Ref sig .tc := ⟨.hbm, 73, rfl⟩
abbrev main_call4_v6 : Ref sig .tc := ⟨.hbm, 74, rfl⟩
abbrev main_call4_c_2 : Ref sig .tc := ⟨.hbm, 75, rfl⟩
abbrev main_call4_v7 : Ref sig .tc := ⟨.hbm, 76, rfl⟩
abbrev main_call4_v8 : Ref sig .tc := ⟨.hbm, 77, rfl⟩
abbrev main_call4_c_3 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_v12 : Ref sig .tc := ⟨.hbm, 82, rfl⟩
abbrev main_call4_v13 : Ref sig .tc := ⟨.hbm, 83, rfl⟩
abbrev main_call4_v14 : Ref sig .tc := ⟨.hbm, 84, rfl⟩
abbrev main_v5 : Ref sig .tc := ⟨.hbm, 85, rfl⟩
abbrev main_v6 : Ref sig .tc := ⟨.hbm, 86, rfl⟩
abbrev main_v7 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_c_3 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_c_4 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_c_5 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_c_6 : Ref sig .tc := ⟨.hbm, 116, rfl⟩
abbrev main_v33 : Ref sig .tc := ⟨.hbm, 117, rfl⟩
abbrev main_v34 : Ref sig .tc := ⟨.hbm, 118, rfl⟩
abbrev main_c_7 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_cst : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_c_8 : Ref sig .tc := ⟨.hbm, 129, rfl⟩
abbrev main_v43 : Ref sig .tc := ⟨.hbm, 130, rfl⟩
abbrev main_v44 : Ref sig .tc := ⟨.hbm, 131, rfl⟩
abbrev main_c_9 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_c_10 : Ref sig .tc := ⟨.hbm, 136, rfl⟩
abbrev main_v48 : Ref sig .tc := ⟨.hbm, 137, rfl⟩
abbrev main_v49 : Ref sig .tc := ⟨.hbm, 138, rfl⟩
abbrev main_c_11 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_cst_12 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_cst_13 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩

abbrev nD : Nat := 1
abbrev τ : Topo := Topo.v7x

variable {F : FTy → Type} [FloatOps F]
-- ==== Proof.Rank.lean ====
/- The rank of a window among its batch's noise values, and the first places of the stable sort.

   A window's RANK is the number of windows that come before it: those of smaller noise, and those of equal noise and
   smaller number. A stable sort by noise puts a window at the place its rank names, so the windows at the first
   `k` places are exactly those of rank below `k`. Nothing here names a program. -/
module

public import Idealize.ShloMosaic.Lib.SortFacts
public import Idealize.ShloMosaic.Lib.SortPrefix
public import Mathlib.Data.EReal.Operations

@[expose] public section

noncomputable section

namespace Cert.WindowMask

open Idealize.ShloMosaic

/-- `u` comes before `w`: its noise is smaller, or equal and its number smaller. -/
def Earlier {N : ℕ} (n : Fin N → EReal) (u w : Fin N) : Prop := n u < n w ∨ (n u = n w ∧ u < w)

/-- The number of windows that come before `w`. -/
def rank {N : ℕ} (n : Fin N → EReal) (w : Fin N) : ℕ := by
  classical exact (Finset.univ.filter fun u => Earlier n u w).card

/-- The windows kept: those of rank below 54. -/
def Kept (n : Fin 216 → EReal) (w : Fin 216) : Prop := rank n w < 54

section Places

variable {N : ℕ} (n : Fin N → EReal)

/-- The comparison a sort by noise makes. -/
def below (u w : Fin N) : Bool := decide (n u < n w)

/-- `Earlier` as a truth value: noise first, then the number. -/
def earlier (u w : Fin N) : Bool := decide (n u < n w) || (decide (n u = n w) && decide (u < w))

theorem earlier_iff (u w : Fin N) : earlier n u w = true ↔ Earlier n u w := by
  unfold earlier Earlier
  simp only [Bool.or_eq_true, Bool.and_eq_true, decide_eq_true_eq]

theorem earlier_strict : StrictTotalBefore (earlier n) :=
  StrictTotalBefore.of_key_then_position (fun a b : EReal => decide (a < b)) n (fun a => by simp)
    (fun a b c h h' => by
      simp only [decide_eq_true_eq] at h h' ⊢
      exact h.trans h')
    (fun a b => by
      simp only [decide_eq_true_eq]
      exact lt_trichotomy a b)

/-- On a list in increasing order the stable sort by noise breaks ties by the number. -/
theorem stableSort_below (l : List (Fin N)) (hl : l.Pairwise (· < ·)) :
    stableSort (below n) l = stableSort (earlier n) l := by
  induction l with
  | nil => rfl
  | cons a l ih =>
    obtain ⟨ha, hl'⟩ := List.pairwise_cons.mp hl
    unfold stableSort
    rw [ih hl']
    refine insertBefore_congr _ _ _ _ fun b hb => ?_
    have hab : a < b := ha b ((perm_stableSort _ l).mem_iff.mp hb)
    unfold below earlier
    rw [decide_eq_false (not_lt.mpr hab.le), Bool.and_false, Bool.or_false]

theorem sortedFrom_below : sortedFrom (below n) = sortedFrom (earlier n) := by
  have h : sortPositions N (below n) = sortPositions N (earlier n) :=
    stableSort_below n _ (List.pairwise_lt_finRange N)
  funext k
  unfold sortedFrom
  rw [List.get_of_eq h]
  rfl

/-- Between two places of the sort the earlier place holds the window that comes before. -/
theorem sortedFrom_mono (i j : Fin N) (hij : i < j) : Earlier n (sortedFrom (below n) i) (sortedFrom (below n) j) := by
  have hB := earlier_strict n
  rw [sortedFrom_below]
  have hno := sortedFrom_noInversion (earlier n) (earlier n) (fun a b h => hB.asymm a b h) (fun _ _ h => h) hB.negTrans i j hij
  have hne : sortedFrom (earlier n) i ≠ sortedFrom (earlier n) j := fun e => hij.ne (sortedFrom_injective _ e)
  rcases hB.total _ _ hne with h | h
  · exact (earlier_iff n _ _).mp h
  · rw [hno] at h
    exact absurd h (by decide)

/-- THE STABLE SORT PUTS A WINDOW AT THE PLACE ITS RANK NAMES. -/
theorem rank_sortedFrom (i : Fin N) : rank n (sortedFrom (below n) i) = i.val := by
  classical
  have hB := earlier_strict n
  have hset : (Finset.univ.filter fun u => Earlier n u (sortedFrom (below n) i))
      = (Finset.univ.filter fun j : Fin N => j < i).image (sortedFrom (below n)) := by
    ext u
    simp only [Finset.mem_filter, Finset.mem_univ, true_and, Finset.mem_image]
    obtain ⟨j, rfl⟩ := sortedFrom_surjective (below n) u
    constructor
    · intro h
      refine ⟨j, ?_, rfl⟩
      by_contra hj
      rcases lt_or_eq_of_le (not_lt.mp hj) with hlt | heq
      · have h1 := (earlier_iff n _ _).mpr (sortedFrom_mono n i j hlt)
        have h2 := (earlier_iff n _ _).mpr h
        rw [hB.asymm _ _ h1] at h2
        exact absurd h2 (by decide)
      · subst heq
        have h2 := (earlier_iff n _ _).mpr h
        rw [hB.irrefl] at h2
        exact absurd h2 (by decide)
    · rintro ⟨k, hk, e⟩
      rw [← e]
      exact sortedFrom_mono n k i hk
  show (Finset.univ.filter fun u => Earlier n u (sortedFrom (below n) i)).card = _
  rw [hset, Finset.card_image_of_injective _ (sortedFrom_injective _)]
  have hI : (Finset.univ.filter fun j : Fin N => j < i) = Finset.Iio i := by
    ext j
    simp
  rw [hI, Fin.card_Iio]

end Places

/-- A window is kept exactly when it stands at one of the first 54 places of the sort. -/
theorem kept_iff (n : Fin 216 → EReal) (w : Fin 216) :
    Kept n w ↔ ∃ p : Fin 54, sortedFrom (below n) (p.castLE (by decide)) = w := by
  constructor
  · intro h
    obtain ⟨i, rfl⟩ := sortedFrom_surjective (below n) w
    have hi : i.val < 54 := by
      have h' : rank n (sortedFrom (below n) i) < 54 := h
      rwa [rank_sortedFrom] at h'
    exact ⟨⟨i.val, hi⟩, rfl⟩
  · rintro ⟨p, rfl⟩
    show rank n _ < 54
    rw [rank_sortedFrom]
    exact p.isLt

end Cert.WindowMask

end

end
-- ==== Proof.Spec.lean ====
/- What both programs compute, in one place: the window a voxel lies in, whether that window is kept, and the two
   results at a voxel. A kept window's mask is 0 and its voxels stay; every other window's mask is 1 and its voxels
   become 0 times themselves. -/
module

public import proofs.«01_k».proof.Proof.Rank
public import Mathlib.Data.EReal.Operations

@[expose] public section

noncomputable section

namespace Cert.WindowMask

/-- The window of the voxel `(h, w, d)`: windows are 16 voxels long on each axis, 6 of them per axis, numbered row
    by row. -/
def winOf (h w d : Fin 96) : Fin 216 := ⟨h.val / 16 * 36 + w.val / 16 * 6 + d.val / 16, by omega⟩

/-- 1 for a kept window, 0 for any other. -/
def keep (n : Fin 216 → EReal) (w : Fin 216) : EReal := by
  classical exact if Kept n w then 1 else 0

/-- The mask: 0 for a kept window, 1 for any other. -/
def hide (n : Fin 216 → EReal) (w : Fin 216) : EReal := by
  classical exact if Kept n w then 0 else 1

theorem keep_of (n : Fin 216 → EReal) (w : Fin 216) (h : Kept n w) : keep n w = 1 := if_pos h
theorem keep_of_not (n : Fin 216 → EReal) (w : Fin 216) (h : ¬Kept n w) : keep n w = 0 := if_neg h
theorem hide_of (n : Fin 216 → EReal) (w : Fin 216) (h : Kept n w) : hide n w = 0 := if_pos h
theorem hide_of_not (n : Fin 216 → EReal) (w : Fin 216) (h : ¬Kept n w) : hide n w = 1 := if_neg h

theorem one_sub_one : (1 : EReal) - 1 = 0 := EReal.sub_self (by decide) (by decide)

theorem one_sub_keep (n : Fin 216 → EReal) (w : Fin 216) : 1 - keep n w = hide n w := by
  by_cases h : Kept n w
  · rw [keep_of n w h, hide_of n w h, one_sub_one]
  · rw [keep_of_not n w h, hide_of_not n w h, sub_zero]

theorem one_sub_hide (n : Fin 216 → EReal) (w : Fin 216) : 1 - hide n w = keep n w := by
  by_cases h : Kept n w
  · rw [keep_of n w h, hide_of n w h, sub_zero]
  · rw [keep_of_not n w h, hide_of_not n w h, one_sub_one]

end Cert.WindowMask

end

end
-- ==== Proof.Keep.lean ====
/- What the kernel computes for one block: the column of windows kept, by counting for each window the windows before
   it, and the row of lanes it spreads that column to by a one-hot sum. -/
module

public import proofs.«01_k».proof.Proof.Spec
public import proofs.«01_k».proof.Proof.Gen.KernelIdeal.Skeleton
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.WindowMask

open Cert.KernelIdeal Cert.KernelIdeal.Gen

/-- A truth value widened to a word and read as a number is 1 or 0. -/
theorem number_of_bit (p : Bool) :
    FloatOps.sitofp (F := Ideal) FTy.f32 (BitVec.setWidth 32 (BitVec.ofBool p)) = if p = true then (1 : EReal) else 0 := by
  cases p
  · show (((BitVec.setWidth 32 (BitVec.ofBool false)).toInt : ℝ) : EReal) = _
    rw [show (BitVec.setWidth 32 (BitVec.ofBool false)).toInt = 0 from by decide]
    simp
  · show (((BitVec.setWidth 32 (BitVec.ofBool true)).toInt : ℝ) : EReal) = _
    rw [show (BitVec.setWidth 32 (BitVec.ofBool true)).toInt = 1 from by decide]
    simp

theorem ofBits_54 : Ideal.ofBits .f32 0x42580000#32 = ((54 : ℕ) : EReal) := by
  rw [show ((54 : ℕ) : EReal) = ((54 : ℝ) : EReal) by norm_cast]
  simp [Ideal.ofBits, Ideal.ieee, -EReal.coe_mul]; norm_num

/-- The column of kept windows: 1 at each window of rank below 54, 0 elsewhere. -/
theorem pay4_at (n : Fin 216 → EReal) (v0 : FVec Ideal S1x1x216 .f32) (v2 : FVec Ideal S1x216x1 .f32)
    (h0 : ∀ u : Fin 216, v0 (ix3 0 0 u) = n u) (h2 : ∀ u : Fin 216, v2 (ix3 0 u 0) = n u) (w : Fin 216) :
    k0_pay4 (F := Ideal) v0 v2 (ix2 w 0) = keep n w := by
  classical
  have hw := w.isLt
  pointwise [k0_pay4, h0, h2]
  have hs : ∀ x : Fin 216, FloatOps.sitofp (F := Ideal) FTy.f32 (BitVec.setWidth 32 (IntOp.ori (BitVec.ofBool (decide (n x < n w)))
      (IntOp.andi (BitVec.ofBool (decide (n x = n w))) (IntOp.cmpi CmpIPredicate.slt (BitVec.ofNat 32 ↑x) (BitVec.ofNat 32 ↑w)))))
      = if Earlier n x w then (1 : EReal) else 0 := by
    intro x
    have hx := x.isLt
    rw [WordCmp.cmpi_slt_of_lt (by rw [BitVec.toNat_ofNat]; omega) (by rw [BitVec.toNat_ofNat]; omega),
      WordCmp.andi_ofBool, WordCmp.ori_ofBool, number_of_bit]
    refine if_congr ?_ rfl rfl
    rw [BitVec.toNat_ofNat, BitVec.toNat_ofNat, Nat.mod_eq_of_lt (by omega), Nat.mod_eq_of_lt (by omega)]
    unfold Earlier
    simp only [Bool.or_eq_true, Bool.and_eq_true, decide_eq_true_eq, Fin.lt_def]
  rw [Finset.sum_congr rfl fun x _ => hs x, ← Finset.sum_filter, Finset.sum_const, number_of_bit, ofBits_54]
  unfold keep
  refine if_congr ?_ rfl rfl
  rw [decide_eq_true_iff, nsmul_one]
  show ((rank n w : ℕ) : EReal) < ((54 : ℕ) : EReal) ↔ rank n w < 54
  exact Nat.cast_lt

/-- The quotient of a lane by 256, with the correction jnp makes for negative operands, is the lane's window on the
    last axis. -/
theorem lane_word : ∀ l : Fin 1536,
    Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            1#32)
          (IntOp.cmpi CmpIPredicate.ne (IntOp.remsi ArithUnit.vector (BitVec.ofNat 32 l.val) 256#32) 0#32))
        (IntOp.subi (IntOp.divsi ArithUnit.vector (BitVec.ofNat 32 l.val) 256#32) 1#32)
        (IntOp.divsi ArithUnit.vector (BitVec.ofNat 32 l.val) 256#32)
      = BitVec.ofNat 32 (l.val / 256) := by
  decide +kernel

/-- The lane row: lane `l` of block `(i, j)` holds the column's entry at window `i * 36 + j * 6 + l / 256`. -/
theorem pay1_at (v22 : FVec Ideal S216x1 .f32) (a : ℕ) (ha : a ≤ 210) (l : Fin 1536) :
    k0_pay1 (F := Ideal) v22 (BitVec.ofNat 32 a) (iota .tc S216x1536 32 [1] iota_S216x1536_d1_w32)
        (iota .tc S216x1536 32 [0] iota_S216x1536_d0_w32) 256#32 k0_pay5 k0_pay6 1#32 (ix4 0 0 0 l)
      = v22 (ix2 (⟨a + l.val / 256, by omega⟩ : Fin 216) 0) := by
  classical
  have hl := l.isLt
  pointwise [k0_pay1, k0_pay5, k0_pay6]
  rw [lane_word l]
  have hs : ∀ x : Fin 216, v22 (ix2 x 0) * FloatOps.sitofp (F := Ideal) FTy.f32 (BitVec.setWidth 32
      (IntOp.cmpi CmpIPredicate.eq (BitVec.ofNat 32 ↑x) (IntOp.addi (BitVec.ofNat 32 a) (BitVec.ofNat 32 (l.val / 256)))))
      = if x = (⟨a + l.val / 256, by omega⟩ : Fin 216) then v22 (ix2 x 0) else (0 : EReal) := by
    intro x
    have hx := x.isLt
    rw [show IntOp.addi (BitVec.ofNat 32 a) (BitVec.ofNat 32 (l.val / 256)) = BitVec.ofNat 32 (a + l.val / 256) from
      (BitVec.ofNat_add ..).symm, WordCmp.cmpi_eq_eq, number_of_bit]
    have e : (decide (BitVec.ofNat 32 x.val = BitVec.ofNat 32 (a + l.val / 256)) = true)
        ↔ x = (⟨a + l.val / 256, by omega⟩ : Fin 216) := by
      rw [decide_eq_true_iff, WordCmp.ofNat_eq_ofNat_iff (by omega) (by omega), Fin.ext_iff]
    by_cases hxe : x = (⟨a + l.val / 256, by omega⟩ : Fin 216)
    · rw [if_pos (e.mpr hxe), if_pos hxe]
      exact mul_one _
    · rw [if_neg (fun h => hxe (e.mp h)), if_neg hxe]
      exact mul_zero _
  rw [Finset.sum_congr rfl fun x _ => hs x, Finset.sum_ite_eq' Finset.univ, if_pos (Finset.mem_univ _)]

/-- The mask block: 0 at the lanes of a kept window, 1 at the others. -/
theorem pay2_at (n : Fin 216 → EReal) (v22 : FVec Ideal S216x1 .f32) (h : ∀ w : Fin 216, v22 (ix2 w 0) = keep n w) (a : ℕ) (ha : a ≤ 210)
    (r s : Fin 16) (l : Fin 1536) :
    k0_pay2 (F := Ideal) v22 (BitVec.ofNat 32 a) (iota .tc S216x1536 32 [1] iota_S216x1536_d1_w32)
        (iota .tc S216x1536 32 [0] iota_S216x1536_d0_w32) 256#32 k0_pay5 k0_pay6 1#32 (ix4 0 r s l)
      = hide n (⟨a + l.val / 256, by omega⟩ : Fin 216) := by
  refine Eq.trans ?_ (one_sub_keep n _)
  rw [← h, ← pay1_at v22 a ha l]
  pointwise [k0_pay2]

/-- The masked block: the block read, times the indicator of the lane's window. -/
theorem pay3_at (n : Fin 216 → EReal) (v22 : FVec Ideal S216x1 .f32) (h : ∀ w : Fin 216, v22 (ix2 w 0) = keep n w) (a : ℕ) (ha : a ≤ 210)
    (x : FVec Ideal S1x16x16x1536 .f32) (r s : Fin 16) (l : Fin 1536) :
    k0_pay3 (F := Ideal) v22 (BitVec.ofNat 32 a) (iota .tc S216x1536 32 [1] iota_S216x1536_d1_w32)
        (iota .tc S216x1536 32 [0] iota_S216x1536_d0_w32) 256#32 k0_pay5 k0_pay6 1#32 x (ix4 0 r s l)
      = x (ix4 0 r s l) * keep n (⟨a + l.val / 256, by omega⟩ : Fin 216) := by
  rw [← h, ← pay1_at v22 a ha l]
  pointwise [k0_pay3]

end Cert.WindowMask

end

end
-- ==== Proof.Arrays.lean ====
/- What the two output arrays of the kernel's grid hold after the run: the mask of each voxel's window and the voxel
   times the indicator of that window, in the layout whose last axis joins depth and channel. -/
module

public import proofs.«01_k».proof.Proof.Keep
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WindowMask

open Cert.KernelIdeal Cert.KernelIdeal.Gen

variable (m : (ℓ : Loc nD τ sig) → Buf (Elt Ideal) ℓ)

/-- The window of lane `l` at row `h`, column `w` of the joined layout. -/
def laneWin (h w : Fin 96) (l : Fin 1536) : Fin 216 := ⟨h.val / 16 * 36 + w.val / 16 * 6 + l.val / 256, by omega⟩

/-- The mask in the joined layout, from the noise. -/
def maskArr (nz : FVec Ideal S2x216 .f32) : FVec Ideal S2x96x96x1536 .f32 := fun i =>
  hide (fun u => nz (ix2 (i 0) u)) (laneWin (i 1) (i 2) (i 3))

/-- The masked voxels in the joined layout, from the voxels in that layout and the noise. -/
def maskedArr (x : FVec Ideal S2x96x96x1536 .f32) (nz : FVec Ideal S2x216 .f32) : FVec Ideal S2x96x96x1536 .f32 := fun i =>
  x i * keep (fun u => nz (ix2 (i 0) u)) (laneWin (i 1) (i 2) (i 3))

/-- The blocks' places in their arrays, at every grid point. -/
theorem places : ∀ t : Fin cfg0.N, win0_0.index t = ![(grid0.coords t 0).val, 0, 0] ∧ win0_1.index t = ![(grid0.coords t 0).val, 0, 0]
    ∧ win0_2.index t = ![(grid0.coords t 0).val, (grid0.coords t 1).val, (grid0.coords t 2).val, 0]
    ∧ win0_3.index t = ![(grid0.coords t 0).val, (grid0.coords t 1).val, (grid0.coords t 2).val, 0]
    ∧ win0_4.index t = ![(grid0.coords t 0).val, (grid0.coords t 1).val, (grid0.coords t 2).val, 0]
    ∧ (grid0.coords t 0).val < 2 ∧ (grid0.coords t 1).val < 6 ∧ (grid0.coords t 2).val < 6 :=
  (by decide +kernel : ∀ t : Fin grid0.N, _)

/-- The noise laid out as rows, as the grid finds it. -/
theorem rows_at (c : Dev nD) (b : Fin 2) (u : Fin 216) :
    V m c main_v1 (ix3 b 0 u) = m ((c : Thread nD τ).loc main_arg1) (ix2 b u) := by
  have e : V m c main_v1 = shapeCast _ (m ((c : Thread nD τ).loc main_arg1)) shapeCasts_S2x216_S2x1x216 := by
    show StableHlo.after hostOps0 _ _ = _
    after_results
    try rfl
  rw [e]
  pointwise

/-- The noise laid out as columns, as the grid finds it. -/
theorem cols_at (c : Dev nD) (b : Fin 2) (u : Fin 216) :
    V m c main_v2 (ix3 b u 0) = m ((c : Thread nD τ).loc main_arg1) (ix2 b u) := by
  have e : V m c main_v2 = shapeCast _ (m ((c : Thread nD τ).loc main_arg1)) shapeCasts_S2x216_S2x216x1 := by
    show StableHlo.after hostOps0 _ _ = _
    after_results
    try rfl
  rw [e]
  pointwise

/-- The noise row a block reads. -/
theorem row_at (c : Dev nD) (t : Fin cfg0.N) (hb : (grid0.coords t 0).val < 2) (u : Fin 216) :
    iblk m c 0 t (ix3 0 0 u) = m ((c : Thread nD τ).loc main_arg1) (ix2 ⟨(grid0.coords t 0).val, hb⟩ u) := by
  refine Eq.trans ?_ (rows_at m c ⟨(grid0.coords t 0).val, hb⟩ u)
  blk_ext [iblk, places t]

/-- The noise column a block reads. -/
theorem col_at (c : Dev nD) (t : Fin cfg0.N) (hb : (grid0.coords t 0).val < 2) (u : Fin 216) :
    iblk m c 1 t (ix3 0 u 0) = m ((c : Thread nD τ).loc main_arg1) (ix2 ⟨(grid0.coords t 0).val, hb⟩ u) := by
  refine Eq.trans ?_ (cols_at m c ⟨(grid0.coords t 0).val, hb⟩ u)
  blk_ext [iblk, places t]

/-- The word of block `(i, j)`'s first window. -/
theorem base_word (i j : ℕ) : Scalar.addi (Scalar.muli (BitVec.ofNat 32 i) 36#32) (Scalar.muli (BitVec.ofNat 32 j) 6#32)
    = BitVec.ofNat 32 (i * 36 + j * 6) := by
  show BitVec.ofNat 32 i * BitVec.ofNat 32 36 + BitVec.ofNat 32 j * BitVec.ofNat 32 6 = _
  rw [← BitVec.ofNat_mul, ← BitVec.ofNat_mul, ← BitVec.ofNat_add]

/-- The index of a block's element in the mask array. -/
theorem place_mask (t : Fin cfg0.N) (r s : Fin 16) (l : Fin 1536) (hb : (grid0.coords t 0).val < 2) (hi : (grid0.coords t 1).val < 6)
    (hj : (grid0.coords t 2).val < 6) :
    ((cfg0.win 4).blk t).view.emb (ix4 0 r s l)
      = ix4 (⟨(grid0.coords t 0).val, hb⟩ : Fin 2) (⟨(grid0.coords t 1).val * 16 + r.val, by omega⟩ : Fin 96)
        (⟨(grid0.coords t 2).val * 16 + s.val, by omega⟩ : Fin 96) l := by
  blk_ext [places t]

/-- The index of a block's element in the other output array. -/
theorem place_masked (t : Fin cfg0.N) (r s : Fin 16) (l : Fin 1536) (hb : (grid0.coords t 0).val < 2) (hi : (grid0.coords t 1).val < 6)
    (hj : (grid0.coords t 2).val < 6) :
    ((cfg0.win 3).blk t).view.emb (ix4 0 r s l)
      = ix4 (⟨(grid0.coords t 0).val, hb⟩ : Fin 2) (⟨(grid0.coords t 1).val * 16 + r.val, by omega⟩ : Fin 96)
        (⟨(grid0.coords t 2).val * 16 + s.val, by omega⟩ : Fin 96) l := by
  blk_ext [places t]

/-- The index of a block's element in the array of voxels. -/
theorem place_read (t : Fin cfg0.N) (r s : Fin 16) (l : Fin 1536) (hb : (grid0.coords t 0).val < 2) (hi : (grid0.coords t 1).val < 6)
    (hj : (grid0.coords t 2).val < 6) :
    ((cfg0.win 2).blk t).view.emb (ix4 0 r s l)
      = ix4 (⟨(grid0.coords t 0).val, hb⟩ : Fin 2) (⟨(grid0.coords t 1).val * 16 + r.val, by omega⟩ : Fin 96)
        (⟨(grid0.coords t 2).val * 16 + s.val, by omega⟩ : Fin 96) l := by
  blk_ext [places t]

/-- The column of kept windows a grid point computes. -/
theorem column_at (c : Dev nD) (t : Fin cfg0.N) (hb : (grid0.coords t 0).val < 2) (w : Fin 216) :
    k0_pay9 (F := Ideal) (grid0.coords t) (iblk m c 0 t) (iblk m c 1 t) (iblk m c 2 t) (ix2 w 0)
      = keep (fun u => m ((c : Thread nD τ).loc main_arg1) (ix2 ⟨(grid0.coords t 0).val, hb⟩ u)) w := by
  unfold k0_pay9
  refine pay4_at _ _ _ (fun u => ?_) (fun u => ?_) w
  · refine Eq.trans ?_ (row_at m c t hb u)
    pointwise
  · refine Eq.trans ?_ (col_at m c t hb u)
    pointwise

/-- The mask array after the run. -/
theorem mask_final (c : Dev nD) : (dats m 0 c).arrAt 4 (cfgs 0).N = maskArr (m ((c : Thread nD τ).loc main_arg1)) := by
  refine (dats m 0 c).arrAt_eq_of_covers 4 _ (by decide +kernel) fun t _ y => ?_
  blk_simp
  rw [after0_4]
  frame_out
  obtain ⟨_, _, _, _, _, hb, hi, hj⟩ := places t
  idx_vars y
  obtain rfl : y0 = 0 := Subsingleton.elim _ _
  rw [base_word]
  refine (pay2_at _ _ (column_at m c t hb) _ (by omega) y1 y2 y3).trans ?_
  refine Eq.trans ?_ (congrArg (maskArr _) (place_mask t y1 y2 y3 hb hi hj)).symm
  show hide _ _ = hide _ _
  congr 1
  refine Fin.ext ?_
  show (grid0.coords t 1).val * 36 + (grid0.coords t 2).val * 6 + y3.val / 256
    = ((grid0.coords t 1).val * 16 + y1.val) / 16 * 36 + ((grid0.coords t 2).val * 16 + y2.val) / 16 * 6 + y3.val / 256
  omega

/-- The array of masked voxels after the run. -/
theorem masked_final (c : Dev nD) : (dats m 0 c).arrAt 3 (cfgs 0).N
    = maskedArr (V m c main_v0) (m ((c : Thread nD τ).loc main_arg1)) := by
  refine (dats m 0 c).arrAt_eq_of_covers 3 _ (by decide +kernel) fun t _ y => ?_
  blk_simp
  rw [after0_3]
  frame_out
  obtain ⟨_, _, _, _, _, hb, hi, hj⟩ := places t
  idx_vars y
  obtain rfl : y0 = 0 := Subsingleton.elim _ _
  rw [base_word]
  refine (pay3_at _ _ (column_at m c t hb) _ (by omega) _ y1 y2 y3).trans ?_
  refine Eq.trans ?_ (congrArg (maskedArr _ _) (place_masked t y1 y2 y3 hb hi hj)).symm
  refine Ideal.mul_congr ?_ ?_
  · refine Eq.trans ?_ (congrArg (V m c main_v0) (place_read t y1 y2 y3 hb hi hj))
    first | rfl | (pointwise; blk_simp [iblk])
  · show keep _ _ = keep _ _
    congr 1
    refine Fin.ext ?_
    show (grid0.coords t 1).val * 36 + (grid0.coords t 2).val * 6 + y3.val / 256
      = ((grid0.coords t 1).val * 16 + y1.val) / 16 * 36 + ((grid0.coords t 2).val * 16 + y2.val) / 16 * 6 + y3.val / 256
    omega

end Cert.WindowMask

end

end
-- ==== Proof.KernelRun.lean ====
/- The kernel's run: its two results after the reshapes that split the joined axis back into depth and channel. -/
module

public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.WindowMask

open Cert.KernelIdeal Cert.KernelIdeal.Gen

variable (m : (ℓ : Loc nD τ sig) → Buf (Elt Ideal) ℓ) (ρ : Dev nD → PrngReg)

/-- The mask, from the noise: 0 at the voxels of a kept window, 1 at the others. -/
def maskOf (nz : FVec Ideal S2x216 .f32) : FVec Ideal S2x96x96x96x16 .f32 := fun i =>
  hide (fun u => nz (ix2 (i 0) u)) (winOf (i 1) (i 2) (i 3))

/-- The masked voxels: each voxel times the indicator of its window. -/
def maskedOf (x : FVec Ideal S2x96x96x96x16 .f32) (nz : FVec Ideal S2x216 .f32) : FVec Ideal S2x96x96x96x16 .f32 := fun i =>
  x i * keep (fun u => nz (ix2 (i 0) u)) (winOf (i 1) (i 2) (i 3))

/-- A lane of the joined layout lies in the window of its depth. -/
theorem laneWin_eq (h w d : Fin 96) (c : Fin 16) (hl : d.val * 16 + c.val < 1536) :
    laneWin h w ⟨d.val * 16 + c.val, hl⟩ = winOf h w d := by
  refine Fin.ext ?_
  show h.val / 16 * 36 + w.val / 16 * 6 + (d.val * 16 + c.val) / 256 = h.val / 16 * 36 + w.val / 16 * 6 + d.val / 16
  omega

/-- The mask array, its last axis split. -/
theorem split_mask (nz : FVec Ideal S2x216 .f32) :
    shapeCast S2x96x96x96x16 (maskArr nz) shapeCasts_S2x96x96x1536_S2x96x96x96x16 = maskOf nz := by
  funext j
  idx_vars j
  pointwise
  show hide _ (laneWin _ _ _) = hide _ (winOf _ _ _)
  exact congrArg _ (laneWin_eq _ _ _ _ _)

/-- The voxels as the grid finds them: depth and channel joined. -/
theorem voxels (c : Dev nD) : V m c main_v0 = shapeCast S2x96x96x1536 (m ((c : Thread nD τ).loc main_arg0)) shapeCasts_S2x96x96x96x16_S2x96x96x1536 := by
  show StableHlo.after hostOps0 _ _ = _
  after_results
  try rfl

/-- The array of masked voxels, its last axis split. -/
theorem split_masked (x : FVec Ideal S2x96x96x96x16 .f32) (nz : FVec Ideal S2x216 .f32) :
    shapeCast S2x96x96x96x16 (maskedArr (shapeCast S2x96x96x1536 x shapeCasts_S2x96x96x96x16_S2x96x96x1536) nz)
      shapeCasts_S2x96x96x1536_S2x96x96x96x16 = maskedOf x nz := by
  funext j
  idx_vars j
  pointwise
  refine Ideal.mul_congr ?_ (congrArg _ (laneWin_eq _ _ _ _ _))
  pointwise
  blk_ext []

/-- The second result, the mask, as the lines after the grid leave it. -/
theorem result_mask (c : Dev nD) : Pipeline.afterTail₀ cfgs (dats m) 0 (V0 m) [hostOps1] c main_v5 = maskOf (m ((c : Thread nD τ).loc main_arg1)) := by
  refine Eq.trans ?_ (split_mask _)
  rw [← mask_final m c]
  unfold Pipeline.afterTail₀
  show StableHlo.after hostOps1 _ _ = _
  after_results
  exact congrArg (fun z => shapeCast S2x96x96x96x16 z shapeCasts_S2x96x96x1536_S2x96x96x96x16)
    (Pipeline.withArrays_arr (cfgs 0).spec launch0.win.arr_inj c (V0 m c) (fun w => (dats m 0 c).arrAt w (cfgs 0).N) 4)

/-- The first result, the masked voxels, as the lines after the grid leave it. -/
theorem result_masked (c : Dev nD) : Pipeline.afterTail₀ cfgs (dats m) 0 (V0 m) [hostOps1] c main_v4
    = maskedOf (m ((c : Thread nD τ).loc main_arg0)) (m ((c : Thread nD τ).loc main_arg1)) := by
  refine Eq.trans ?_ (split_masked _ _)
  rw [← voxels m c, ← masked_final m c]
  unfold Pipeline.afterTail₀
  show StableHlo.after hostOps1 _ _ = _
  after_results
  exact congrArg (fun z => shapeCast S2x96x96x96x16 z shapeCasts_S2x96x96x1536_S2x96x96x96x16)
    (Pipeline.withArrays_arr (cfgs 0).spec launch0.win.arr_inj c (V0 m c) (fun w => (dats m 0 c).arrAt w (cfgs 0).N) 3)

/-- THE KERNEL'S RUN: both results as functions of the arguments, the arguments unchanged. -/
theorem kernel_run : θ_run defs (onTc (τ := τ) (main (F := Ideal))) ⟨m, fun _ => 0, ρ⟩ fun r => ∀ c : Dev nD,
    r.2.mem ((c.tc : Thread nD τ).loc main_v4) = maskedOf (m ((c.tc : Thread nD τ).loc main_arg0)) (m ((c.tc : Thread nD τ).loc main_arg1))
    ∧ r.2.mem ((c.tc : Thread nD τ).loc main_v5) = maskOf (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_masked m c),
      ((h c).2 main_v5 (Pipeline.mem_restRefs_of main_v5 (by decide) (by decide))).trans (result_mask m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.WindowMask

end

end
-- ==== Proof.Sorted.lean ====
/- The reference's window numbers in sorted order: place `p` of batch `b` holds the window that the stable sort by noise
   puts there. -/
module

public import proofs.«01_k».proof.Proof.Spec
public import proofs.«01_k».proof.Proof.Gen.ReferenceIdeal
public import Idealize.ShloMosaic.Lib.Pointwise
public import Idealize.ShloMosaic.Lib.WordCmp
public import Idealize.ShloMosaic.Lib.SortFacts

@[expose] public section

set_option maxRecDepth 16384

noncomputable section

open Idealize.ShloMosaic Idealize.ShloMosaic.TcCoe Idealize.SL.Sem

namespace Cert.WindowMask

open Cert.ReferenceIdeal Cert.ReferenceIdeal.Gen

/-- The sort's comparator, which first makes both zeros one and both kinds of not-a-number one, is the comparison of the
    extended reals. -/
theorem comparator_eq (a b : EReal × BitVec 32) :
    comparator_f32_i32_d1 (F := Ideal) a b = BitVec.ofBool (decide (a.1 < b.1)) := by
  classical
  have hz : Ideal.ofBits .f32 0x00000000#32 = 0 := Ideal.ofBits_zero_f32
  have hn : ∀ x : EReal, FloatOps.cmpf (F := Ideal) (φ := .f32) .une x x = 0#1 := fun x => by
    show BitVec.ofBool (decide (x ≠ x)) = 0#1
    simp
  have hs : ∀ x : EReal, Scalar.select (FloatOps.cmpf (F := Ideal) (φ := .f32) .oeq x (0 : EReal)) (0 : EReal) x = x := fun x => by
    show Scalar.select (BitVec.ofBool (decide (x = 0))) (0 : EReal) x = x
    rw [WordCmp.select_decide]
    split
    · next h => exact h.symm
    · rfl
  have h0 : ∀ x y : EReal, Scalar.select (0#1) x y = y := fun x y => rfl
  unfold comparator_f32_i32_d1
  show FloatOps.cmpfTotal (F := Ideal) (φ := .f32) .lt
    (Scalar.select (FloatOps.cmpf (F := Ideal) (φ := .f32) .une a.1 a.1) _ (Scalar.select (FloatOps.cmpf (F := Ideal) (φ := .f32) .oeq a.1 (Ideal.ofBits .f32 0x00000000#32)) (Ideal.ofBits .f32 0x00000000#32) a.1))
    (Scalar.select (FloatOps.cmpf (F := Ideal) (φ := .f32) .une b.1 b.1) _ (Scalar.select (FloatOps.cmpf (F := Ideal) (φ := .f32) .oeq b.1 (Ideal.ofBits .f32 0x00000000#32)) (Ideal.ofBits .f32 0x00000000#32) b.1)) = _
  rw [hn, hn, hz, hs, hs, h0, h0]
  rfl

/-- The window numbers sorted by noise, batch by batch. -/
def sortedIds (nz : FVec Ideal S2x216 .f32) : IVec S2x216 32 :=
  (Host.sort2 S2x216 1 (comparator_f32_i32_d1 (F := Ideal)) nz (iotaInDim S2x216 32 1)).2

/-- The first 54 of them. -/
def keptIds (nz : FVec Ideal S2x216 .f32) : IVec S2x54 32 :=
  extractStridedSlice S2x54 ![0, 0] (sortedIds nz) slices_S2x216_S2x54_0_0

/-- The place `u` of the row through `(b, k)`. -/
theorem along_row (b : Fin 2) (k u : Fin 216) : Shape.Idx.along (s := S2x216) (ix2 b k) (1 : Fin 2) u = ix2 b u := by
  funext a
  fin_cases a <;> rfl

/-- The second array of a sort of two along the rows, read at a place: the element of the row that the row's own order
    puts there. -/
theorem second_at {α β : Type} (cmp : α × β → α × β → BitVec 1) (x : S2x216.Idx → α) (y : S2x216.Idx → β) (b : Fin 2) (k : Fin 216)
    (before : Fin 216 → Fin 216 → Bool)
    (hb : ∀ u u', (cmp (x (ix2 b u), y (ix2 b u)) (x (ix2 b u'), y (ix2 b u')) == 1#1) = before u u') :
    (Host.sort2 S2x216 1 cmp x y).2 (ix2 b k) = y (ix2 b (sortedFrom before k)) := by
  have hf : (fun u u' : Fin 216 =>
      cmp (x (Shape.Idx.along (s := S2x216) (ix2 b k) (1 : Fin 2) u), y (Shape.Idx.along (s := S2x216) (ix2 b k) (1 : Fin 2) u))
        (x (Shape.Idx.along (s := S2x216) (ix2 b k) (1 : Fin 2) u'), y (Shape.Idx.along (s := S2x216) (ix2 b k) (1 : Fin 2) u')) == 1#1) = before := by
    funext u u'
    rw [along_row, along_row]
    exact hb u u'
  unfold Host.sort2
  rw [dif_pos (by decide)]
  refine Eq.trans (congrArg (fun f => y (Shape.Idx.along (s := S2x216) (ix2 b k) (1 : Fin 2) (sortedFrom f k))) hf) ?_
  exact congrArg y (along_row b k _)

theorem sortedIds_at (nz : FVec Ideal S2x216 .f32) (b : Fin 2) (k : Fin 216) :
    sortedIds nz (ix2 b k) = BitVec.ofNat 32 (sortedFrom (below fun u => nz (ix2 b u)) k).val := by
  refine (second_at _ nz (iotaInDim S2x216 32 1) b k (below fun u => nz (ix2 b u)) fun u u' => ?_).trans ?_
  · rw [comparator_eq]
    unfold below
    cases decide (nz (ix2 b u) < nz (ix2 b u')) <;> rfl
  · rfl

theorem keptIds_at (nz : FVec Ideal S2x216 .f32) (b : Fin 2) (p : Fin 54) :
    keptIds nz (ix2 b p) = BitVec.ofNat 32 (sortedFrom (below fun u => nz (ix2 b u)) (p.castLE (by decide))).val := by
  rw [← sortedIds_at]
  pointwise [keptIds]
  rfl

end Cert.WindowMask

end

end
-- ==== Proof.Places.lean ====
/- The reference's index words: from the number of a kept window to the places, in the batch's flat list of voxels, of
   the 4096 voxels of that window. -/
module

public import proofs.«01_k».proof.Proof.Spec
public import proofs.«01_k».proof.Proof.Gen.ReferenceIdeal
public import Idealize.ShloMosaic.Lib.Pointwise
public import Idealize.ShloMosaic.Lib.WordCmp
public import Idealize.ShloMosaic.Lib.Routing.OpsSet

@[expose] public section

set_option maxRecDepth 16384

noncomputable section

open Idealize.ShloMosaic Idealize.ShloMosaic.TcCoe Idealize.SL.Sem

namespace Cert.WindowMask

open Cert.ReferenceIdeal Cert.ReferenceIdeal.Gen

/-! ## The stages, as the reference has them -/

/-- A number spread over the kept windows' shape. -/
abbrev spread {α : Type} (y : S_.Idx → α) : S2x54.Idx → α := broadcastInDim S2x54 ![] bcast_S_S2x54 y

/-- The floor quotient by `k`: the truncated one, less one where the signs differ and a remainder is left. -/
def quo (x : IVec S2x54 32) (k : BitVec 32) : IVec S2x54 32 :=
  select (andi (cmpi .ne (signi x) (spread (signi (id (constantI S_ 32 k)))))
      (cmpi .ne (Host.remsi x (spread (id (constantI S_ 32 k)))) (spread (constantI S_ 32 0#32))))
    (subi (Host.divsi x (spread (id (constantI S_ 32 k)))) (spread (constantI S_ 32 1#32)))
    (Host.divsi x (spread (id (constantI S_ 32 k))))

/-- The divisor of the remainder: 1 in place of 0. -/
def modulus (k : BitVec 32) : IVec S_ 32 :=
  select (cmpi .eq (id (constantI S_ 32 k)) (constantI S_ 32 0#32)) (constantI S_ 32 1#32) (id (constantI S_ 32 k))

/-- The floor remainder by `k`. -/
def rest (x : IVec S2x54 32) (k : BitVec 32) : IVec S2x54 32 :=
  select (andi (cmpi .ne (cmpi .slt (Host.remsi x (spread (modulus k))) (spread (constantI S_ 32 0#32)))
        (spread (cmpi .slt (modulus k) (constantI S_ 32 0#32))))
      (cmpi .ne (Host.remsi x (spread (modulus k))) (spread (constantI S_ 32 0#32))))
    (addi (Host.remsi x (spread (modulus k))) (spread (modulus k)))
    (Host.remsi x (spread (modulus k)))

/-- The first voxel, on one axis, of the windows numbered `y` there. -/
def corner (y : IVec S2x54 32) : IVec S2x54x16x16x16 32 :=
  broadcastInDim S2x54x16x16x16 ![0, 1, 2, 3, 4] bcast_S2x54x1x1x1_S2x54x16x16x16_0_1_2_3_4
    (muli (broadcastInDim S2x54x1x1x1 ![0, 1] bcast_S2x54_S2x54x1x1x1_0_1 y)
      (broadcastInDim S2x54x1x1x1 ![] bcast_S_S2x54x1x1x1 (constantI S_ 32 16#32)))

/-- A count of 16 within the window, the same for every window. -/
def within (o : IVec S16x16x16 32) : IVec S2x54x16x16x16 32 :=
  broadcastInDim S2x54x16x16x16 ![0, 1, 2, 3, 4] bcast_S1x1x16x16x16_S2x54x16x16x16_0_1_2_3_4
    (broadcastInDim S1x1x16x16x16 ![2, 3, 4] bcast_S16x16x16_S1x1x16x16x16_2_3_4 o)

def rowOf (x : IVec S2x54 32) : IVec S2x54x16x16x16 32 :=
  addi (corner (quo x 36#32)) (within (broadcastInDim S16x16x16 ![0] bcast_S16_S16x16x16_0 (iotaInDim S16 32 0)))

def columnOf (x : IVec S2x54 32) : IVec S2x54x16x16x16 32 :=
  addi (corner (quo (rest x 36#32) 6#32)) (within (broadcastInDim S16x16x16 ![1] bcast_S16_S16x16x16_1 (iotaInDim S16 32 0)))

def depthOf (x : IVec S2x54 32) : IVec S2x54x16x16x16 32 :=
  addi (corner (rest (rest x 36#32) 6#32)) (within (broadcastInDim S16x16x16 ![2] bcast_S16_S16x16x16_2 (iotaInDim S16 32 0)))

/-- A kept window's voxels, as places in the batch's flat list. -/
def keptVoxels (x : IVec S2x54 32) : IVec S2x54x16x16x16 32 :=
  addi (addi (muli (rowOf x) (broadcastInDim S2x54x16x16x16 ![] bcast_S_S2x54x16x16x16 (constantI S_ 32 9216#32)))
    (muli (columnOf x) (broadcastInDim S2x54x16x16x16 ![] bcast_S_S2x54x16x16x16 (constantI S_ 32 96#32)))) (depthOf x)

def voxelList (x : IVec S2x54 32) : IVec S2x221184 32 := shapeCast _ (keptVoxels x) shapeCasts_S2x54x16x16x16_S2x221184

/-- The places, with a negative one counted from the end. -/
def voxelWords (x : IVec S2x54 32) : IVec S2x221184 32 :=
  select (cmpi .slt (voxelList x) (broadcastInDim S2x221184 ![] bcast_S_S2x221184 (constantI S_ 32 0#32)))
    (addi (voxelList x) (broadcastInDim S2x221184 ![] bcast_S_S2x221184 (constantI S_ 32 884736#32))) (voxelList x)

def batchList : IVec S2x1 32 := broadcastInDim S2x1 ![0] bcast_S2_S2x1_0 (iotaInDim S2 32 0)

def batchWords : IVec S2x1 32 :=
  select (cmpi .slt batchList (broadcastInDim S2x1 ![] bcast_S_S2x1 (constantI S_ 32 0#32)))
    (addi batchList (broadcastInDim S2x1 ![] bcast_S_S2x1 (constantI S_ 32 2#32))) batchList

/-- The two index words of every update: its batch and its place. -/
def addresses (x : IVec S2x54 32) : IVec S2x221184x2 32 :=
  concatenate S2x221184x2 2
    [⟨S2x221184x1, broadcastInDim S2x221184x1 ![0, 1] bcast_S2x221184_S2x221184x1_0_1
        (broadcastInDim S2x221184 ![0, 1] bcast_S2x1_S2x221184_0_1 batchWords)⟩,
      ⟨S2x221184x1, broadcastInDim S2x221184x1 ![0, 1] bcast_S2x221184_S2x221184x1_0_1 (voxelWords x)⟩]
    concatenates_S2x221184x1_S2x221184x1_S2x221184x2_d2

/-! ## The words at an index -/

theorem quo36_word (w : Fin 216) (x : IVec S2x54 32) (b : Fin 2) (p : Fin 54) (h : x (ix2 b p) = BitVec.ofNat 32 w.val) :
    quo x 36#32 (ix2 b p) = BitVec.ofNat 32 (w.val / 36) := by
  pointwise [quo]
  rw [h]
  clear h
  revert w
  decide +kernel

theorem quo6_word (w : Fin 216) (x : IVec S2x54 32) (b : Fin 2) (p : Fin 54) (h : x (ix2 b p) = BitVec.ofNat 32 w.val) :
    quo x 6#32 (ix2 b p) = BitVec.ofNat 32 (w.val / 6) := by
  pointwise [quo]
  rw [h]
  clear h
  revert w
  decide +kernel

theorem rest36_word (w : Fin 216) (x : IVec S2x54 32) (b : Fin 2) (p : Fin 54) (h : x (ix2 b p) = BitVec.ofNat 32 w.val) :
    rest x 36#32 (ix2 b p) = BitVec.ofNat 32 (w.val % 36) := by
  pointwise [rest, modulus]
  rw [h]
  clear h
  revert w
  decide +kernel

theorem rest6_word (w : Fin 216) (x : IVec S2x54 32) (b : Fin 2) (p : Fin 54) (h : x (ix2 b p) = BitVec.ofNat 32 w.val) :
    rest x 6#32 (ix2 b p) = BitVec.ofNat 32 (w.val % 6) := by
  pointwise [rest, modulus]
  rw [h]
  clear h
  revert w
  decide +kernel

/-- The place of voxel `(r, s, t)` of window `w`. -/
def placeOf (w : Fin 216) (r s t : Fin 16) : Fin 884736 :=
  ⟨(w.val / 36 * 16 + r.val) * 9216 + (w.val % 36 / 6 * 16 + s.val) * 96 + (w.val % 36 % 6 * 16 + t.val), by omega⟩

theorem keptVoxels_at (w : Fin 216) (x : IVec S2x54 32) (b : Fin 2) (p : Fin 54) (h : x (ix2 b p) = BitVec.ofNat 32 w.val) (r s t : Fin 16) :
    keptVoxels x (ix5 b p r s t) = BitVec.ofNat 32 (placeOf w r s t).val := by
  have h3 := rest36_word w x b p h
  have h36 : w.val % 36 < 216 := by omega
  have h2 := quo36_word w x b p h
  have h4 := quo6_word ⟨w.val % 36, h36⟩ (rest x 36#32) b p h3
  have h5 := rest6_word ⟨w.val % 36, h36⟩ (rest x 36#32) b p h3
  pointwise [keptVoxels, rowOf, columnOf, depthOf, corner, within]
  rw [h2, h4, h5]
  simp only [placeOf, IntOp.addi, IntOp.muli, BitVec.ofNat_add, BitVec.ofNat_mul]

theorem voxelList_at (x : IVec S2x54 32) (b : Fin 2) (p : Fin 54) (r s t : Fin 16) :
    voxelList x (ix2 b ⟨p.val * 4096 + r.val * 256 + s.val * 16 + t.val, by omega⟩) = keptVoxels x (ix5 b p r s t) := by
  pointwise [voxelList]

theorem voxelWords_at (w : Fin 216) (x : IVec S2x54 32) (b : Fin 2) (p : Fin 54) (h : x (ix2 b p) = BitVec.ofNat 32 w.val) (r s t : Fin 16) :
    voxelWords x (ix2 b ⟨p.val * 4096 + r.val * 256 + s.val * 16 + t.val, by omega⟩) = BitVec.ofNat 32 (placeOf w r s t).val := by
  have hv := (voxelList_at x b p r s t).trans (keptVoxels_at w x b p h r s t)
  pointwise [voxelWords]
  rw [hv, Routing.wrap_of_lt]
  rw [WordCmp.toNat_ofNat_of_lt] <;> have := (placeOf w r s t).isLt <;> omega

theorem addresses_zero (x : IVec S2x54 32) (b : Fin 2) (q : Fin 221184) : addresses x (ix3 b q 0) = BitVec.ofNat 32 b.val := by
  pointwise [addresses, batchWords, batchList]
  revert b
  decide +kernel

theorem addresses_one (x : IVec S2x54 32) (b : Fin 2) (q : Fin 221184) : addresses x (ix3 b q 1) = voxelWords x (ix2 b q) := by
  pointwise [addresses]

end Cert.WindowMask

end

end
-- ==== Proof.Scatter.lean ====
/- The reference's two results: it writes 0 over the voxels of the kept windows in an array of ones, which makes the
   mask, and multiplies the volume by one less the mask. -/
module

public import proofs.«01_k».proof.Proof.Sorted
public import proofs.«01_k».proof.Proof.Places

@[expose] public section

set_option maxRecDepth 16384

noncomputable section

open Idealize.ShloMosaic Idealize.ShloMosaic.TcCoe Idealize.SL.Sem

namespace Cert.WindowMask

open Cert.ReferenceIdeal Cert.ReferenceIdeal.Gen

/-- Ones, with 0 written at the addresses of the numbers `x`. -/
def marked (x : IVec S2x54 32) : FVec Ideal S2x884736 .f32 :=
  Host.scatter scatter_S2x884736_S2x221184x2_S2x221184_n_01_01_2 (fun _ b => b)
    (broadcastInDim S2x884736 ![] bcast_S_S2x884736 (constant S_ .f32 0x3F800000#32)) (addresses x)
    (broadcastInDim S2x221184 ![] bcast_S_S2x221184 (constant S_ .f32 0x00000000#32))

/-- The mask over voxels and channels. -/
def maskStages (x : IVec S2x54 32) : FVec Ideal S2x96x96x96x16 .f32 :=
  shapeCast _ (broadcastInDim S2x96x96x96x1x16 ![0, 1, 2, 3, 4] bcast_S2x96x96x96x1_S2x96x96x96x1x16_0_1_2_3_4
    (broadcastInDim S2x96x96x96x1 ![0, 1, 2, 3] bcast_S2x96x96x96_S2x96x96x96x1_0_1_2_3
      (shapeCast _ (marked x) shapeCasts_S2x884736_S2x96x96x96))) shapeCasts_S2x96x96x96x1x16_S2x96x96x96x16

/-- The volume times one less the mask. -/
def maskedStages (x : FVec Ideal S2x96x96x96x16 .f32) (k : FVec Ideal S2x96x96x96x16 .f32) : FVec Ideal S2x96x96x96x16 .f32 :=
  mulf x (subf (broadcastInDim S2x96x96x96x16 ![] bcast_S_S2x96x96x96x16 (constant S_ .f32 0x3F800000#32)) k)

/-- An update lands at voxel `v` of batch `b` exactly when it is of that batch and its place is `v`. -/
theorem lands_iff (x : IVec S2x54 32) (b' b : Fin 2) (w : Fin 216) (p : Fin 54) (r s t : Fin 16) (v : Fin 884736)
    (h : x (ix2 b' p) = BitVec.ofNat 32 w.val) :
    scatter_S2x884736_S2x221184x2_S2x221184_n_01_01_2.resultIdx?
        (ix2 b' (⟨p.val * 4096 + r.val * 256 + s.val * 16 + t.val, by omega⟩ : Fin 221184)) (addresses x) = some (ix2 b v)
      ↔ b' = b ∧ placeOf w r s t = v := by
  refine (Routing.scatter_lands2 scatter_S2x884736_S2x221184x2_S2x221184_n_01_01_2 rfl rfl rfl (addresses x) b' _ b v).trans ?_
  have h0 := addresses_zero x b' (⟨p.val * 4096 + r.val * 256 + s.val * 16 + t.val, by omega⟩ : Fin 221184)
  have h1 := (addresses_one x b' (⟨p.val * 4096 + r.val * 256 + s.val * 16 + t.val, by omega⟩ : Fin 221184)).trans
    (voxelWords_at w x b' p h r s t)
  have hp := (placeOf w r s t).isLt
  have hb := b'.isLt
  have e0 : (addresses x (ix3 b' (⟨p.val * 4096 + r.val * 256 + s.val * 16 + t.val, by omega⟩ : Fin 221184) 0)).toInt = b'.val := by
    rw [h0, WordCmp.toInt_ofNat_of_lt (by omega)]
  have e1 : (addresses x (ix3 b' (⟨p.val * 4096 + r.val * 256 + s.val * 16 + t.val, by omega⟩ : Fin 221184) 1)).toInt = (placeOf w r s t).val := by
    rw [h1, WordCmp.toInt_ofNat_of_lt (by omega)]
  constructor
  · rintro ⟨g0, g1⟩
    exact ⟨Fin.ext (by exact_mod_cast e0.symm.trans g0), Fin.ext (by exact_mod_cast e1.symm.trans g1)⟩
  · rintro ⟨rfl, rfl⟩
    exact ⟨e0, e1⟩

/-- The place of a voxel in the batch's flat list. -/
def flatOf (h w d : Fin 96) : Fin 884736 := ⟨h.val * 9216 + w.val * 96 + d.val, by omega⟩

/-- A window's voxel is at the voxel's place, -/
theorem placeOf_winOf (h w d : Fin 96) :
    placeOf (winOf h w d) ⟨h.val % 16, by omega⟩ ⟨w.val % 16, by omega⟩ ⟨d.val % 16, by omega⟩ = flatOf h w d := by
  refine Fin.ext ?_
  show ((h.val / 16 * 36 + w.val / 16 * 6 + d.val / 16) / 36 * 16 + h.val % 16) * 9216
    + ((h.val / 16 * 36 + w.val / 16 * 6 + d.val / 16) % 36 / 6 * 16 + w.val % 16) * 96
    + ((h.val / 16 * 36 + w.val / 16 * 6 + d.val / 16) % 36 % 6 * 16 + d.val % 16) = h.val * 9216 + w.val * 96 + d.val
  omega

/-- and no other window has a voxel there. -/
theorem winOf_of_placeOf (u : Fin 216) (r s t : Fin 16) (h w d : Fin 96) (e : placeOf u r s t = flatOf h w d) : u = winOf h w d := by
  have e' : (u.val / 36 * 16 + r.val) * 9216 + (u.val % 36 / 6 * 16 + s.val) * 96 + (u.val % 36 % 6 * 16 + t.val)
    = h.val * 9216 + w.val * 96 + d.val := congrArg Fin.val e
  have hu := u.isLt
  have h0 : u.val / 36 * 16 + r.val = h.val := by omega
  have h1 : u.val % 36 / 6 * 16 + s.val = w.val := by omega
  have h2 : u.val % 36 % 6 * 16 + t.val = d.val := by omega
  refine Fin.ext ?_
  show u.val = h.val / 16 * 36 + w.val / 16 * 6 + d.val / 16
  omega

theorem marked_at (nz : FVec Ideal S2x216 .f32) (b : Fin 2) (h w d : Fin 96) :
    marked (keptIds nz) (ix2 b (flatOf h w d)) = hide (fun u => nz (ix2 b u)) (winOf h w d) := by
  by_cases hk : Kept (fun u => nz (ix2 b u)) (winOf h w d)
  · rw [hide_of _ _ hk]
    obtain ⟨p, hp⟩ := (kept_iff _ _).1 hk
    have hx : keptIds nz (ix2 b p) = BitVec.ofNat 32 (winOf h w d).val := by rw [keptIds_at, hp]
    unfold marked
    refine Routing.scatter_set_hit _ _ _ _ _ 0 (fun k _ => ?_) _ ((lands_iff _ b b _ p ⟨h.val % 16, by omega⟩ ⟨w.val % 16, by omega⟩ ⟨d.val % 16, by omega⟩ _ hx).2
      ⟨rfl, placeOf_winOf h w d⟩)
    exact Ideal.ofBits_zero_f32
  · rw [hide_of_not _ _ hk]
    unfold marked
    refine (Routing.scatter_set_miss _ _ _ _ _ fun k hl => hk ?_).trans ?_
    · obtain ⟨b', q, rfl⟩ : ∃ (b' : Fin 2) (q : Fin 221184), k = ix2 b' q := ⟨k 0, k 1, ValueIdx.eq_ix2 k⟩
      obtain ⟨p, r, s, t, rfl⟩ : ∃ (p : Fin 54) (r s t : Fin 16),
          q = ⟨p.val * 4096 + r.val * 256 + s.val * 16 + t.val, by omega⟩ :=
        ⟨⟨q.val / 4096, by omega⟩, ⟨q.val / 256 % 16, by omega⟩, ⟨q.val / 16 % 16, by omega⟩, ⟨q.val % 16, by omega⟩,
          Fin.ext (by show q.val = q.val / 4096 * 4096 + q.val / 256 % 16 * 256 + q.val / 16 % 16 * 16 + q.val % 16; omega)⟩
      obtain ⟨rfl, e⟩ := (lands_iff _ b' b _ p r s t _ (keptIds_at nz b' p)).1 hl
      exact (kept_iff _ _).2 ⟨p, winOf_of_placeOf _ r s t h w d e⟩
    · pointwise []

theorem maskStages_at (nz : FVec Ideal S2x216 .f32) (b : Fin 2) (h w d : Fin 96) (c : Fin 16) :
    maskStages (keptIds nz) (ix5 b h w d c) = hide (fun u => nz (ix2 b u)) (winOf h w d) := by
  rw [← marked_at]
  pointwise [maskStages]
  rfl

theorem maskedStages_at (x : FVec Ideal S2x96x96x96x16 .f32) (nz : FVec Ideal S2x216 .f32) (b : Fin 2) (h w d : Fin 96) (c : Fin 16) :
    maskedStages x (maskStages (keptIds nz)) (ix5 b h w d c) = x (ix5 b h w d c) * keep (fun u => nz (ix2 b u)) (winOf h w d) := by
  rw [← one_sub_hide, ← maskStages_at nz b h w d c]
  pointwise [maskedStages]

end Cert.WindowMask

end

end
-- ==== Proof.ReferenceRun.lean ====
/- The reference's run: its two results, in the same words as the kernel's. -/
module

public import proofs.«01_k».proof.Proof.Scatter
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem

namespace Cert.WindowMask

open Cert.ReferenceIdeal Cert.ReferenceIdeal.Gen

variable (m : (ℓ : Loc nD τ sig) → Buf (Elt Ideal) ℓ) (ρ : Dev nD → PrngReg)

/-- The reference's second result is the stages' mask, -/
theorem mask_stages (c : Dev nD) :
    Cert.ReferenceIdeal.Value.res_main_v62 m c = maskStages (keptIds (m ((c.tc : Thread nD τ).loc main_arg1))) := by
  unfold Cert.ReferenceIdeal.Value.res_main_v62
  rfl

/-- and its first the volume times one less that. -/
theorem masked_stages (c : Dev nD) :
    Cert.ReferenceIdeal.Value.res_main_v65 m c
      = maskedStages (m ((c.tc : Thread nD τ).loc main_arg0)) (maskStages (keptIds (m ((c.tc : Thread nD τ).loc main_arg1)))) := by
  unfold Cert.ReferenceIdeal.Value.res_main_v65
  rfl

/-- The mask, element by element. -/
theorem mask_value (nz : FVec Ideal S2x216 .f32) :
    maskStages (keptIds nz) = fun i => hide (fun u => nz (ix2 (i 0) u)) (winOf (i 1) (i 2) (i 3)) := by
  funext i
  idx_vars i
  exact maskStages_at nz _ _ _ _ _

/-- The masked volume, element by element. -/
theorem masked_value (x : FVec Ideal S2x96x96x96x16 .f32) (nz : FVec Ideal S2x216 .f32) :
    maskedStages x (maskStages (keptIds nz)) = fun i => x i * keep (fun u => nz (ix2 (i 0) u)) (winOf (i 1) (i 2) (i 3)) := by
  funext i
  idx_vars i
  exact maskedStages_at x nz _ _ _ _ _

theorem reference_run :
    θ_run (defs (F := Ideal)) (onTc (τ := τ) (main (F := Ideal))) ⟨m, fun _ => 0, ρ⟩ fun r => ∀ c : Dev nD,
      r.2.mem ((c.tc : Thread nD τ).loc main_v65)
          = maskedStages (m ((c.tc : Thread nD τ).loc main_arg0)) (maskStages (keptIds (m ((c.tc : Thread nD τ).loc main_arg1))))
      ∧ r.2.mem ((c.tc : Thread nD τ).loc main_v62) = maskStages (keptIds (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (masked_stages m c), (h c).2.1.trans (mask_stages m c), (h c).2.2⟩)
    (Cert.ReferenceIdeal.Value.run m ρ)

/-- The reference's arguments end unchanged, and it has no semaphore. -/
theorem reference_frame :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => (h c).2.2, sem_eq_zero_of_no_sems (by decide) r.2⟩) (reference_run m ρ)

end Cert.WindowMask

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- The two programs' results agree. -/
theorem algebraic :
    Cert.algebraic_KernelIdeal_ReferenceIdeal (hKernelIdeal := Cert.KernelIdeal.Gen.facts) (hReferenceIdeal := Cert.ReferenceIdeal.Gen.facts) := by
  intro m g m' g' _ hargs
  refine ⟨fun c => Cert.WindowMask.maskedOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.WindowMask.maskOf (m ((c.tc : Thread Cert.KernelIdeal.nD Cert.KernelIdeal.τ).loc Cert.KernelIdeal.main_arg1)),
    Cert.WindowMask.kernel_run m g,
    (θ_run _ _ _).mono (fun r h c => ⟨(h c).1.trans ?_, (h c).2.1.trans ?_, (h c).2.2⟩) (Cert.WindowMask.reference_run m' g')⟩
  · rw [(hargs c).1, (hargs c).2]
    exact Cert.WindowMask.masked_value _ _
  · rw [(hargs c).2]
    exact Cert.WindowMask.mask_value _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.WindowMask.reference_frame m ρ, trivial, algebraic⟩

end Cert.Proof

end
